-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x18944 : Shape := ⟨2, ![2048, 18944]⟩
abbrev S9472x3584 : Shape := ⟨2, ![9472, 3584]⟩
abbrev S2048x1 : Shape := ⟨2, ![2048, 1]⟩
abbrev S3584 : Shape := ⟨1, ![3584]⟩
abbrev S1x3584 : Shape := ⟨2, ![1, 3584]⟩
abbrev S2048x3584 : Shape := ⟨2, ![2048, 3584]⟩
abbrev S256x18944 : Shape := ⟨2, ![256, 18944]⟩
abbrev S9472x512 : Shape := ⟨2, ![9472, 512]⟩
abbrev S256x1 : Shape := ⟨2, ![256, 1]⟩
abbrev S1x512 : Shape := ⟨2, ![1, 512]⟩
abbrev S256x512 : Shape := ⟨2, ![256, 512]⟩
abbrev S18944x512 : Shape := ⟨2, ![18944, 512]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S256x128 : Shape := ⟨2, ![256, 128]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x18944, .i8⟩
  | .hbm, ⟨1, _⟩ => ⟨S9472x3584, .i8⟩
  | .hbm, ⟨2, _⟩ => ⟨S2048x1, .f32⟩
  | .hbm, ⟨3, _⟩ => ⟨S3584, .f32⟩
  | .hbm, ⟨4, _⟩ => ⟨S1x3584, .f32⟩
  | .hbm, ⟨5, _⟩ => ⟨S2048x3584, .bf16⟩
  | .local _ .vmem, ⟨0, _⟩ => ⟨S256x18944, .i8⟩
  | .local _ .vmem, ⟨1, _⟩ => ⟨S256x18944, .i8⟩
  | .local _ .vmem, ⟨2, _⟩ => ⟨S9472x512, .i8⟩
  | .local _ .vmem, ⟨3, _⟩ => ⟨S9472x512, .i8⟩
  | .local _ .vmem, ⟨4, _⟩ => ⟨S256x1, .f32⟩
  | .local _ .vmem, ⟨5, _⟩ => ⟨S256x1, .f32⟩
  | .local _ .vmem, ⟨6, _⟩ => ⟨S1x512, .f32⟩
  | .local _ .vmem, ⟨7, _⟩ => ⟨S1x512, .f32⟩
  | .local _ .vmem, ⟨8, _⟩ => ⟨S256x512, .bf16⟩
  | .local _ .vmem, ⟨9, _⟩ => ⟨S256x512, .bf16⟩
  | .local _ .vmem, ⟨10, _⟩ => ⟨S18944x512, .fp8e4m3⟩
  | .local _ .vmem, ⟨11, _⟩ => ⟨S256x512, .f32⟩
  | _, _ => ⟨S2048x18944, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![7, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c148_i32 : BitVec 32 := 148#32
  let v18 : BitVec 32 := Scalar.addi c0_i32_12 c148_i32
  let c1_i32_13 : BitVec 32 := 1#32
  ⟨c0_i32_12, v18, c1_i32_13⟩
def k0_off1 (k0_t1 : Fin k0_t1_loop.trips) : Fin 2 → Nat :=
  let c0_i32_12 : BitVec 32 := 0#32
  let c1_i32_13 : BitVec 32 := 1#32
  let arg9 : BitVec 32 := Scf.iv c0_i32_12 c1_i32_13 k0_t1
  let c64_i32 : BitVec 32 := 64#32
  let v19 : BitVec 32 := Scalar.muli arg9 c64_i32
  let v20 : Index := Scalar.indexCast v19
  let c0_15 : Index := 0#32
  ![v20.toNat, 0]
def k0_off2 (k0_t1 : Fin k0_t1_loop.trips) : Fin 2 → Nat :=
  let c0_i32_12 : BitVec 32 := 0#32
  let c1_i32_13 : BitVec 32 := 1#32
  let arg9 : BitVec 32 := Scf.iv c0_i32_12 c1_i32_13 k0_t1
  let c128_i32 : BitVec 32 := 128#32
  let v38 : BitVec 32 := Scalar.muli arg9 c128_i32
  let v39 : Index := Scalar.indexCast v38
  let c0_18 : Index := 0#32
  ![v39.toNat, 0]
@[reducible] def k0_t2_loop : Scf.Loop 32 :=
  let c0_i32_2 : BitVec 32 := 0#32
  let c37_i32 : BitVec 32 := 37#32
  let v7 : BitVec 32 := Scalar.addi c0_i32_2 c37_i32
  let c1_i32 : BitVec 32 := 1#32
  ⟨c0_i32_2, v7, c1_i32⟩
def k0_mult1 (k0_t2 : Fin k0_t2_loop.trips) : BitVec 32 :=
  let c0_i32_2 : BitVec 32 := 0#32
  let c1_i32 : BitVec 32 := 1#32
  let arg9 : BitVec 32 := Scf.iv c0_i32_2 c1_i32 k0_t2
  let c4_i32 : BitVec 32 := 4#32
  let v18 : BitVec 32 := Scalar.muli arg9 c4_i32
  let c0_i32_12 : BitVec 32 := 0#32
  let v19 : BitVec 32 := Scalar.addi v18 c0_i32_12
  let c128_i32 : BitVec 32 := 128#32
  let v20 : BitVec 32 := Scalar.muli v19 c128_i32
  v20
def k0_off3 (k0_t2 : Fin k0_t2_loop.trips) (c0_i32_12 : BitVec 32) : Fin 2 → Nat :=
  let c0_13 : Index := 0#32
  let c0_i32_2 : BitVec 32 := 0#32
  let c1_i32 : BitVec 32 := 1#32
  let arg9 : BitVec 32 := Scf.iv c0_i32_2 c1_i32 k0_t2
  let c4_i32 : BitVec 32 := 4#32
  let v18 : BitVec 32 := Scalar.muli arg9 c4_i32
  let v19 : BitVec 32 := Scalar.addi v18 c0_i32_12
  let c128_i32 : BitVec 32 := 128#32
  let v20 : BitVec 32 := Scalar.muli v19 c128_i32
  let v21 : BitVec 32 := v20
  let v22 : Index := Scalar.indexCast v21
  ![0, v22.toNat]
def k0_mult2 (k0_t2 : Fin k0_t2_loop.trips) : BitVec 32 :=
  let c0_i32_2 : BitVec 32 := 0#32
  let c1_i32 : BitVec 32 := 1#32
  let arg9 : BitVec 32 := Scf.iv c0_i32_2 c1_i32 k0_t2
  let c4_i32 : BitVec 32 := 4#32
  let v18 : BitVec 32 := Scalar.muli arg9 c4_i32
  let c1_i32_14 : BitVec 32 := 1#32
  let v24 : BitVec 32 := Scalar.addi v18 c1_i32_14
  let c128_i32_15 : BitVec 32 := 128#32
  let v25 : BitVec 32 := Scalar.muli v24 c128_i32_15
  v25
def k0_mult3 (k0_t2 : Fin k0_t2_loop.trips) : BitVec 32 :=
  let c0_i32_2 : BitVec 32 := 0#32
  let c1_i32 : BitVec 32 := 1#32
  let arg9 : BitVec 32 := Scf.iv c0_i32_2 c1_i32 k0_t2
  let c4_i32 : BitVec 32 := 4#32
  let v18 : BitVec 32 := Scalar.muli arg9 c4_i32
  let c2_i32 : BitVec 32 := 2#32
  let v29 : BitVec 32 := Scalar.addi v18 c2_i32
  let c128_i32_17 : BitVec 32 := 128#32
  let v30 : BitVec 32 := Scalar.muli v29 c128_i32_17
  v30
def k0_mult4 (k0_t2 : Fin k0_t2_loop.trips) : BitVec 32 :=
  let c0_i32_2 : BitVec 32 := 0#32
  let c1_i32 : BitVec 32 := 1#32
  let arg9 : BitVec 32 := Scf.iv c0_i32_2 c1_i32 k0_t2
  let c4_i32 : BitVec 32 := 4#32
  let v18 : BitVec 32 := Scalar.muli arg9 c4_i32
  let c3_i32 : BitVec 32 := 3#32
  let v34 : BitVec 32 := Scalar.addi v18 c3_i32
  let c128_i32_19 : BitVec 32 := 128#32
  let v35 : BitVec 32 := Scalar.muli v34 c128_i32_19
  v35
def k0_off4 (k0_t2 : Fin k0_t2_loop.trips) : Fin 2 → Nat :=
  let c0_i32_2 : BitVec 32 := 0#32
  let c1_i32 : BitVec 32 := 1#32
  let arg9 : BitVec 32 := Scf.iv c0_i32_2 c1_i32 k0_t2
  let c512_i32 : BitVec 32 := 512#32
  let v43 : BitVec 32 := Scalar.muli arg9 c512_i32
  let v44 : Index := Scalar.indexCast v43
  let c0_23 : Index := 0#32
  ![v44.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x18944 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S9472x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2048x18944 : Shape := ⟨2, ![2048, 18944]⟩
abbrev S9472x3584 : Shape := ⟨2, ![9472, 3584]⟩
abbrev S2048x1 : Shape := ⟨2, ![2048, 1]⟩
abbrev S3584 : Shape := ⟨1, ![3584]⟩
abbrev S2048x9472 : Shape := ⟨2, ![2048, 9472]⟩
abbrev S1x3584 : Shape := ⟨2, ![1, 3584]⟩
abbrev S2048x3584 : Shape := ⟨2, ![2048, 3584]⟩

abbrev nBuf : Space → Nat
  | .hbm => 8
  | .vmem => 6
  | .smem => 0
  | _ => 0

abbrev bufTy : (tb : Table) → Fin (tcTables nBuf tb) → BufTy
  | .hbm, ⟨0, _⟩ => ⟨S2048x18944, .i8⟩
  | .hbm, ⟨1, _⟩ => ⟨S9472x3584, .i8⟩
  | .hbm, ⟨2, _⟩ => ⟨S2048x1, .f32⟩
  | .hbm, ⟨3, _⟩ => ⟨S3584, .f32⟩
  | .hbm, ⟨4, _⟩ => ⟨S2048x9472, .i8⟩
  | .hbm, ⟨5, _⟩ => ⟨S2048x9472, .i8⟩
  | .hbm, ⟨6, _⟩ => ⟨S1x3584, .f32⟩
  | .hbm, ⟨7, _⟩ => ⟨S2048x3584, .bf16⟩
  | .local _ .vmem, ⟨0, _⟩ => ⟨S2048x9472, .i8⟩
  | .local _ .vmem, ⟨1, _⟩ => ⟨S2048x9472, .i8⟩
  | .local _ .vmem, ⟨2, _⟩ => ⟨S9472x3584, .i8⟩
  | .local _ .vmem, ⟨3, _⟩ => ⟨S2048x1, .f32⟩
  | .local _ .vmem, ⟨4, _⟩ => ⟨S1x3584, .f32⟩
  | .local _ .vmem, ⟨5, _⟩ => ⟨S2048x3584, .bf16⟩
  | _, _ => ⟨S2048x18944, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x9472 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x9472 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9472x3584 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
/-
  What one call of the product kernel's body computes, block by block.

  * `unpacked x`: the unpacked weight block, a function of the packed bytes `x`. The first loop stores it into the
    scratch the kernel carries from point to point.
  * `acc x w k`: the accumulator after `k` trips of the second loop, over codes `x` and unpacked weights `w`.
  * `outBlock`: the block of the result.

  `run_store` and `run_reuse` are the body's two runs: the one that unpacks the weights first, and the one that finds
  them unpacked.
-/
module

public import proofs.«01_k».proof.Proof.Gen.KernelIdeal.Frame
public import proofs.«01_k».proof.Proof.Gen.KernelIdeal.Loops
public import Idealize.ShloMosaic.Lib.Tactic
public import Idealize.ShloMosaic.Lib.VecWindow
public import Idealize.ShloMosaic.Lib.ValueIdxCore

@[expose] public section

set_option maxRecDepth 16384

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values -/

/-- The 64 packed rows trip `k` of the unpacking loop reads lie inside the packed block. -/
theorem inb_bytes (k : Fin 148) : ∀ a, (![64 * k.val, 0] : Fin 2 → ℕ) a + S64x512.size a ≤ S9472x512.size a := fun a =>
  match a with
  | ⟨0, _⟩ => by show 64 * k.val + 64 ≤ 9472; omega
  | ⟨1, _⟩ => by show 0 + 512 ≤ 512; omega

/-- The 128 columns of codes read in piece `r` of trip `k` of the product loop lie inside the block of codes. -/
theorem inb_codes (k : Fin 37) (r : Fin 4) : ∀ a, (![0, 512 * k.val + 128 * r.val] : Fin 2 → ℕ) a + S256x128.size a ≤ S256x18944.size a := fun a =>
  match a with
  | ⟨0, _⟩ => by show 0 + 256 ≤ 256; omega
  | ⟨1, _⟩ => by show 512 * k.val + 128 * r.val + 128 ≤ 18944; omega

/-- The 512 unpacked rows trip `k` of the product loop reads lie inside the unpacked block. -/
theorem inb_rows (k : Fin 37) : ∀ a, (![512 * k.val, 0] : Fin 2 → ℕ) a + S512x512.size a ≤ S18944x512.size a := fun a =>
  match a with
  | ⟨0, _⟩ => by show 512 * k.val + 512 ≤ 18944; omega
  | ⟨1, _⟩ => by show 0 + 512 ≤ 512; omega

/-- The unpacked weight block: row `r` comes from the 64 packed rows of the trip `r / 128`. -/
def unpacked (x : Vec F S9472x512 .i8) : Vec F S18944x512 .fp8e4m3 := fun y =>
  have h : (y 0).val < 18944 := (y 0).isLt
  k0_pay1 (F := F) (VecWindow.window x ![64 * ((y 0).val / 128), 0] S64x512.size (inb_bytes ⟨(y 0).val / 128, by omega⟩))
    (ix2 (n0 := 128) (n1 := 512) ⟨(y 0).val % 128, by omega⟩ (y 1))

/-- One trip of the product loop: the accumulator `a` with trip `k`'s block product added. -/
def accStep (x : Vec F S256x18944 .i8) (w : Vec F S18944x512 .fp8e4m3) (k : Fin 37) (a : Vec F S256x512 .f32) : Vec F S256x512 .f32 :=
  k0_pay3 (F := F) (VecWindow.window x ![0, 512 * k.val + 128 * 0] S256x128.size (inb_codes k 0))
    (VecWindow.window x ![0, 512 * k.val + 128 * 1] S256x128.size (inb_codes k 1))
    (VecWindow.window x ![0, 512 * k.val + 128 * 2] S256x128.size (inb_codes k 2))
    (VecWindow.window x ![0, 512 * k.val + 128 * 3] S256x128.size (inb_codes k 3)) a
    (VecWindow.window w ![512 * k.val, 0] S512x512.size (inb_rows k))

/-- The accumulator after `k` trips of the product loop. -/
def acc (x : Vec F S256x18944 .i8) (w : Vec F S18944x512 .fp8e4m3) : ℕ → Vec F S256x512 .f32
  | 0 => k0_pay2 (F := F)
  | k + 1 => if h : k < 37 then accStep x w ⟨k, h⟩ (acc x w k) else acc x w k

/-- The block of the result: the finished accumulator times the two scales. -/
def outBlock (x : Vec F S256x18944 .i8) (w : Vec F S18944x512 .fp8e4m3) (xs : Vec F S256x1 .f32) (ws : Vec F S1x512 .f32) : Vec F S256x512 .bf16 :=
  k0_pay4 (F := F) (acc x w 37) xs ws

theorem trips1 : k0_t1_loop.trips = 148 := by decide +kernel
theorem trips2 : k0_t2_loop.trips = 37 := by decide +kernel

/-! ## The loops' stores, read back -/

section Loops

variable (𝒱 : Variants) (c : Dev nD) (bd : Option 𝒱.V) (i : grid0.Coords)
  (arg2 : Memref sig .tc .vmem S256x18944 .i8) (harg2 : arg2.IsWhole) (arg3 : Memref sig .tc .vmem S9472x512 .i8) (harg3 : arg3.IsWhole)
  (arg4 : Memref sig .tc .vmem S256x1 .f32) (harg4 : arg4.IsWhole) (arg5 : Memref sig .tc .vmem S1x512 .f32) (harg5 : arg5.IsWhole)
  (arg6 : Memref sig .tc .vmem S256x512 .bf16) (harg6 : arg6.IsWhole) (arg7 : Memref sig .tc .vmem S18944x512 .fp8e4m3) (harg7 : arg7.IsWhole)
  (arg8 : Memref sig .tc .vmem S256x512 .f32) (harg8 : arg8.IsWhole)

/-- Trip `k` of the unpacking loop stores one piece: the unpacked rows of the 64 packed rows it reads. -/
theorem piece1 (hc : k0_cond1 i = 1#1) (X : BufTy.Contents (Elt F) arg3.view.ty) (k : Fin k0_t1_loop.trips) :
    tripL_k0_t1 (F := F) 𝒱 c bd i arg2 harg2 arg3 harg3 arg4 harg4 arg5 harg5 arg6 harg6 arg7 harg7 arg8 harg8 hc X k
      = [⟨Rect.unit (s := S18944x512) (k0_off2 k) S128x512.size (k0_off2_inb i k hc),
          k0_pay1 (arg3.view.readAt (Elt F) (Rect.unit (s := S9472x512) (k0_off1 k) S64x512.size (k0_off1_inb i k hc)).toLoadRect X)⟩] := by
  unfold tripL_k0_t1 trip_k0_t1
  rfl

/-- After `k` trips of the unpacking loop the first `128 k` rows of the scratch are unpacked. -/
theorem read_pb1 (hc : k0_cond1 i = 1#1) (x : Vec F S9472x512 .i8) (f : BufTy.Contents (Elt F) arg7.view.ty) :
    ∀ k : ℕ, k ≤ 148 → ∀ y : S18944x512.Idx, (y 0).val < 128 * k →
      arg7.view.read (Elt F) (arg7.view.writes (Elt F) f
        (pb_k0_t1 (F := F) 𝒱 c bd i arg2 harg2 arg3 harg3 arg4 harg4 arg5 harg5 arg6 harg6 arg7 harg7 arg8 harg8 hc (harg3.unread x) k)) y
        = unpacked x y
  | 0, _, y, hy => absurd hy (by omega)
  | k + 1, hk, y, hy => by
    have hk' : k < k0_t1_loop.trips := by rw [trips1]; omega
    rw [pb_k0_t1_succ 𝒱 c bd i arg2 harg2 arg3 harg3 arg4 harg4 arg5 harg5 arg6 harg6 arg7 harg7 arg8 harg8 hc (harg3.unread x) ⟨k, hk'⟩,
      piece1, List.singleton_append]
    by_cases h : (y 0).val < 128 * k
    · rw [View.read_writes_cons_unit_of_not_mem (off' := ![128 * k, 0]) arg7.view f _ _ _ y (k0_off2_eq ⟨k, hk'⟩) 0 (.inl h)]
      exact read_pb1 hc x f k (by omega) y h
    · have hd : (y 0).val / 128 = k := by omega
      refine (View.read_writes_cons_unit_of_mem (off' := ![128 * k, 0]) (size := S128x512.size) arg7.view f _ _ _ y
        (ix2 (n0 := 128) (n1 := 512) ⟨(y 0).val % 128, by omega⟩ (y 1)) (k0_off2_eq ⟨k, hk'⟩) (fun a =>
          match a with
          | ⟨0, _⟩ => by show (y 0).val = 128 * k + (y 0).val % 128; omega
          | ⟨1, _⟩ => by show (y 1).val = 0 + (y 1).val; omega)).trans ?_
      rw [View.readAt_unit arg3.view (harg3.unread x) _ (k0_off1_eq ⟨k, hk'⟩) (inb_bytes ⟨k, by omega⟩), harg3.read_unread]
      subst hd
      rfl

/-- After the unpacking loop the scratch holds the unpacked block. -/
theorem read_loop1 (hc : k0_cond1 i = 1#1) (x : Vec F S9472x512 .i8) (f : BufTy.Contents (Elt F) arg7.view.ty) :
    arg7.view.read (Elt F) (arg7.view.writes (Elt F) f
        (pb_k0_t1 (F := F) 𝒱 c bd i arg2 harg2 arg3 harg3 arg4 harg4 arg5 harg5 arg6 harg6 arg7 harg7 arg8 harg8 hc (harg3.unread x)
          (Scf.trips k0_t1_loop.lb k0_t1_loop.ub k0_t1_loop.st)))
      = unpacked x := by
  rw [show Scf.trips k0_t1_loop.lb k0_t1_loop.ub k0_t1_loop.st = 148 from trips1]
  funext y
  have h : (y 0).val < 18944 := (y 0).isLt
  exact read_pb1 𝒱 c bd i arg2 harg2 arg3 harg3 arg4 harg4 arg5 harg5 arg6 harg6 arg7 harg7 arg8 harg8 hc x f 148 le_rfl y (by omega)

/-- Trip `k` of the product loop stores one piece: the whole accumulator, the block product added. -/
theorem piece2 (X2 : BufTy.Contents (Elt F) arg2.view.ty) (X7 : BufTy.Contents (Elt F) arg7.view.ty) (k : Fin k0_t2_loop.trips)
    (f : BufTy.Contents (Elt F) arg8.view.ty) :
    tripL_k0_t2 (F := F) 𝒱 c bd i arg2 harg2 arg3 harg3 arg4 harg4 arg5 harg5 arg6 harg6 arg7 harg7 arg8 harg8 X2 X7 k f
      = [⟨Rect.unit (s := S256x512) ![0, 0] S256x512.size inb_S256x512_S256x512_0_0,
          k0_pay3 (arg2.view.readAt (Elt F) (Rect.unit (s := S256x18944) (k0_off3 k 0#32) S256x128.size (k0_off3_inb k 0)).toLoadRect X2)
            (arg2.view.readAt (Elt F) (Rect.unit (s := S256x18944) (k0_off3 k 1#32) S256x128.size (k0_off3_inb k 1)).toLoadRect X2)
            (arg2.view.readAt (Elt F) (Rect.unit (s := S256x18944) (k0_off3 k 2#32) S256x128.size (k0_off3_inb k 2)).toLoadRect X2)
            (arg2.view.readAt (Elt F) (Rect.unit (s := S256x18944) (k0_off3 k 3#32) S256x128.size (k0_off3_inb k 3)).toLoadRect X2)
            (arg8.view.readAt (Elt F) (Rect.unit (s := S256x512) ![0, 0] S256x512.size inb_S256x512_S256x512_0_0).toLoadRect f)
            (arg7.view.readAt (Elt F) (Rect.unit (s := S18944x512) (k0_off4 k) S512x512.size (k0_off4_inb k)).toLoadRect X7)⟩] := by
  unfold tripL_k0_t2 trip_k0_t2
  rfl

/-- After `k` trips of the product loop the accumulator's buffer, entered at zero, holds `acc … k`. -/
theorem read_pb2 (x : Vec F S256x18944 .i8) (w : Vec F S18944x512 .fp8e4m3) (X7 : BufTy.Contents (Elt F) arg7.view.ty)
    (hX7 : arg7.view.read (Elt F) X7 = w) (G : BufTy.Contents (Elt F) arg8.view.ty) (hG : arg8.view.read (Elt F) G = k0_pay2 (F := F)) :
    ∀ k : ℕ, k ≤ 37 →
      arg8.view.read (Elt F) (arg8.view.writes (Elt F) G
        (pb_k0_t2 (F := F) 𝒱 c bd i arg2 harg2 arg3 harg3 arg4 harg4 arg5 harg5 arg6 harg6 arg7 harg7 arg8 harg8 (harg2.unread x) X7 G k))
        = acc x w k
  | 0, _ => hG
  | k + 1, hk => by
    have hk' : k < k0_t2_loop.trips := by rw [trips2]; omega
    rw [pb_k0_t2_succ 𝒱 c bd i arg2 harg2 arg3 harg3 arg4 harg4 arg5 harg5 arg6 harg6 arg7 harg7 arg8 harg8 (harg2.unread x) X7 G ⟨k, hk'⟩,
      piece2, List.singleton_append, View.read_writes_full]
    rw [View.readAt_unit arg2.view (harg2.unread x) _ (show k0_off3 ⟨k, hk'⟩ 0#32 = _ from k0_off3_eq ⟨k, hk'⟩ 0) (inb_codes ⟨k, by omega⟩ 0),
      View.readAt_unit arg2.view (harg2.unread x) _ (show k0_off3 ⟨k, hk'⟩ 1#32 = _ from k0_off3_eq ⟨k, hk'⟩ 1) (inb_codes ⟨k, by omega⟩ 1),
      View.readAt_unit arg2.view (harg2.unread x) _ (show k0_off3 ⟨k, hk'⟩ 2#32 = _ from k0_off3_eq ⟨k, hk'⟩ 2) (inb_codes ⟨k, by omega⟩ 2),
      View.readAt_unit arg2.view (harg2.unread x) _ (show k0_off3 ⟨k, hk'⟩ 3#32 = _ from k0_off3_eq ⟨k, hk'⟩ 3) (inb_codes ⟨k, by omega⟩ 3),
      View.readAt_unit arg7.view X7 _ (k0_off4_eq ⟨k, hk'⟩) (inb_rows ⟨k, by omega⟩),
      View.readAt_full, harg2.read_unread, hX7, read_pb2 x w X7 hX7 G hG k (by omega)]
    show _ = if h : k < 37 then accStep x w ⟨k, h⟩ (acc x w k) else acc x w k
    rw [dif_pos (by omega)]
    rfl

end Loops

/-! ## The body's runs -/

set_option maxHeartbeats 1000000 in
/-- The body at a point that unpacks the weights first: from codes `x0`, packed bytes `x1` and scales `x2`, `x3`, it leaves
    the result's block and, in the carried scratch, the unpacked weights. -/
theorem run_store (c : Dev nD) (i : grid0.Coords) (arg2 : Memref sig .tc .vmem S256x18944 .i8) (harg2 : arg2.IsWhole) (arg3 : Memref sig .tc .vmem S9472x512 .i8) (harg3 : arg3.IsWhole) (arg4 : Memref sig .tc .vmem S256x1 .f32) (harg4 : arg4.IsWhole) (arg5 : Memref sig .tc .vmem S1x512 .f32) (harg5 : arg5.IsWhole) (arg6 : Memref sig .tc .vmem S256x512 .bf16) (harg6 : arg6.IsWhole) (arg7 : Memref sig .tc .vmem S18944x512 .fp8e4m3) (harg7 : arg7.IsWhole) (arg8 : Memref sig .tc .vmem S256x512 .f32) (harg8 : arg8.IsWhole) (hc0 : k0_cond1 i = 1#1)
    (x0 : Vec F S256x18944 .i8) (x1 : Vec F S9472x512 .i8) (x2 : Vec F S256x1 .f32) (x3 : Vec F S1x512 .f32)
      (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlock x0 (unpacked x1) x2 x3) ∗ owns (c : Thread nD τ) arg7 fullShare (unpacked x1) ∗ (∃ d, owns (c : Thread nD τ) arg8 fullShare d)) -∗ K ⟨⟩))
          ⊢ wp frame (wpE (defs₀ (F := F)) Variants.none c none) E (cc0_matmul i arg2 harg2 arg3 harg3 arg4 harg4 arg5 harg5 arg6 harg6 arg7 harg7 arg8 harg8) K := by
    simp only [cc0_matmul_eq_skeleton]; unfold cc0_matmul_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      unfold run_store.sl.v8 run_store.sl.HS1_1
      rw [View.read_writes_full, View.readAt_full, View.readAt_full, harg4.read_unread, harg5.read_unread, View.readCov, View.readAt_full,
        View.writes_append,
        show Scf.trips k0_t2_loop.lb k0_t2_loop.ub k0_t2_loop.st = 37 from trips2,
        read_pb2 Variants.none c none i arg2 harg2 arg3 harg3 arg4 harg4 arg5 harg5 arg6 harg6 arg7 harg7 arg8 harg8 x0 (unpacked x1) _
          (read_loop1 Variants.none c none i arg2 harg2 arg3 harg3 arg4 harg4 arg5 harg5 arg6 harg6 arg7 harg7 arg8 harg8 hc0 x1 fs0) _
          (View.read_writes_full _ _ _ _ _) 37 le_rfl]
      rfl
    isplitl [HS0]
    · iexists _; isplitr; swap; · iexact HS0
      ipureintro
      exact read_loop1 Variants.none c none i arg2 harg2 arg3 harg3 arg4 harg4 arg5 harg5 arg6 harg6 arg7 harg7 arg8 harg8 hc0 x1 fs0
    iexists _, _; isplitr; swap; · iexact HS1
    ipureintro; rfl

set_option maxHeartbeats 1000000 in
/-- The body at a point that finds the weights unpacked (`w`): it leaves the result's block, the scratch as it was. -/
theorem run_reuse (c : Dev nD) (i : grid0.Coords) (arg2 : Memref sig .tc .vmem S256x18944 .i8) (harg2 : arg2.IsWhole) (arg3 : Memref sig .tc .vmem S9472x512 .i8) (harg3 : arg3.IsWhole) (arg4 : Memref sig .tc .vmem S256x1 .f32) (harg4 : arg4.IsWhole) (arg5 : Memref sig .tc .vmem S1x512 .f32) (harg5 : arg5.IsWhole) (arg6 : Memref sig .tc .vmem S256x512 .bf16) (harg6 : arg6.IsWhole) (arg7 : Memref sig .tc .vmem S18944x512 .fp8e4m3) (harg7 : arg7.IsWhole) (arg8 : Memref sig .tc .vmem S256x512 .f32) (harg8 : arg8.IsWhole) (hc0 : ¬ k0_cond1 i = 1#1)
    (x0 : Vec F S256x18944 .i8) (x1 : Vec F S9472x512 .i8) (x2 : Vec F S256x1 .f32) (x3 : Vec F S1x512 .f32) (w : Vec F S18944x512 .fp8e4m3)
      (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare w ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlock x0 w x2 x3) ∗ owns (c : Thread nD τ) arg7 fullShare w ∗ (∃ d, owns (c : Thread nD τ) arg8 fullShare d)) -∗ K ⟨⟩))
          ⊢ wp frame (wpE (defs₀ (F := F)) Variants.none c none) E (cc0_matmul i arg2 harg2 arg3 harg3 arg4 harg4 arg5 harg5 arg6 harg6 arg7 harg7 arg8 harg8) K := by
    simp only [cc0_matmul_eq_skeleton]; unfold cc0_matmul_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      unfold run_reuse.sl.v8 run_reuse.sl.HS1_1
      rw [View.read_writes_full, View.readAt_full, View.readAt_full, harg4.read_unread, harg5.read_unread, View.readCov, View.readAt_full,
        View.writes_append,
        show Scf.trips k0_t2_loop.lb k0_t2_loop.ub k0_t2_loop.st = 37 from trips2,
        read_pb2 Variants.none c none i arg2 harg2 arg3 harg3 arg4 harg4 arg5 harg5 arg6 harg6 arg7 harg7 arg8 harg8 x0 w _
          hfs0 _ (View.read_writes_full _ _ _ _ _) 37 le_rfl]
      rfl
    isplitl [HS0]
    · iexists _; isplitr; swap; · iexact HS0
      ipureintro; exact hfs0
    iexists _, _; isplitr; swap; · iexact HS1
    ipureintro; rfl

end Cert.Proof

end
-- ==== Proof.Run.lean ====
/-
  The run of the product kernel: at every grid point the body leaves the result's block, and carries the unpacked weights
  of the current column block from point to point.
-/
module

public import Idealize.ShloMosaic.Lib.Claim
public import proofs.«01_k».proof.Proof.Body

@[expose] public section

set_option maxRecDepth 16384

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body unpacks the weights at the points whose number is a multiple of 8: the first row block of each column block. -/
theorem unpacks_iff : ∀ t : Fin cfg0.N, k0_cond1 (grid0.coords t) = 1#1 ↔ t.val % 8 = 0 :=
  (fun t => by
    have ht : t.val < 56 := Nat.lt_of_lt_of_eq t.isLt N_0
    have e0 : (grid0.coords t 0).val = t.val / 8 % 7 := Pipeline.Grid.coords_val t 0 (by decide) rfl
    have e1 : (grid0.coords t 1).val = t.val / 1 % 8 := Pipeline.Grid.coords_val t 1 (by decide) rfl
    simp only [k0_cond1, e0, e1]
    word_cmp
   : ∀ t : Fin grid0.N, k0_cond1 (grid0.coords t) = 1#1 ↔ t.val % 8 = 0)

/-! ## The staging memrefs at a point, and the two scratch buffers -/

abbrev mem0 (t : Fin cfg0.N) : Memref sig .tc .vmem S256x18944 .i8 := win0_0.stage (cfg0.slots t 0)
abbrev mem1 (t : Fin cfg0.N) : Memref sig .tc .vmem S9472x512 .i8 := win0_1.stage (cfg0.slots t 1)
abbrev mem2 (t : Fin cfg0.N) : Memref sig .tc .vmem S256x1 .f32 := win0_2.stage (cfg0.slots t 2)
abbrev mem3 (t : Fin cfg0.N) : Memref sig .tc .vmem S1x512 .f32 := win0_3.stage (cfg0.slots t 3)
abbrev mem4 (t : Fin cfg0.N) : Memref sig .tc .vmem S256x512 .bf16 := win0_4.stage (cfg0.slots t 4)
abbrev scr0 : Memref sig .tc .vmem S18944x512 .fp8e4m3 := Memref.whole cc0_scratch0
abbrev scr1 : Memref sig .tc .vmem S256x512 .f32 := Memref.whole cc0_scratch1

/-- The class invariant of the launch, its two scratch buffers as memrefs owned at some contents. -/
theorem PhiA_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-! ## What the scratch and the output hold at a point -/

/-- The four input blocks of point `t`, at their own types. -/
abbrev blk0 (c : Dev nD) (t : Fin cfg0.N) : Vec F S256x18944 .i8 := iblk m c 0 t
abbrev blk1 (c : Dev nD) (t : Fin cfg0.N) : Vec F S9472x512 .i8 := iblk m c 1 t
abbrev blk2 (c : Dev nD) (t : Fin cfg0.N) : Vec F S256x1 .f32 := iblk m c 2 t
abbrev blk3 (c : Dev nD) (t : Fin cfg0.N) : Vec F S1x512 .f32 := iblk m c 3 t

/-- The packed block's index at point `t` is `(0, t / 8)`. -/
theorem tf1 : ∀ t : Fin cfg0.N, cc0_transform_1 (grid0.coords t) = ![0, t.val / 8] :=
  (by decide +kernel : ∀ t : Fin grid0.N, cc0_transform_1 (grid0.coords t) = ![0, t.val / 8])

/-- The packed block is the same at a point that reuses the weights as at the point before it. -/
theorem blk1_prev (c : Dev nD) (t : Fin cfg0.N) (h : ¬ t.val % 8 = 0) :
    blk1 m c ⟨t.val - 1, Nat.lt_of_le_of_lt (Nat.sub_le _ _) t.isLt⟩ = blk1 m c t := by
  have e : cc0_transform_1 (grid0.coords ⟨t.val - 1, Nat.lt_of_le_of_lt (Nat.sub_le _ _) t.isLt⟩) = cc0_transform_1 (grid0.coords t) := by
    rw [tf1, tf1]
    have : (t.val - 1) / 8 = t.val / 8 := by omega
    simp only [this]
  funext j
  show (V m c (Pipeline.arrRef spec0 1)) _ = (V m c (Pipeline.arrRef spec0 1)) _
  refine congrArg _ (funext fun a => Fin.ext ?_)
  show cc0_transform_1 _ a * _ + 1 * (j a).val = cc0_transform_1 _ a * _ + 1 * (j a).val
  rw [e]

/-- The invariant before position `n`: before the first point the scratch holds anything; afterwards the carried scratch holds
    the unpacked weights of the point before. -/
def PhiS (c : Dev nD) : (n : ℕ) → n ≤ cfg0.N → sProp 𝕄
  | 0, _ => Pipeline.ΦA spec0 c
  | n + 1, hn => iprop(iprop(owns (c : Thread nD τ) scr0 fullShare (unpacked (blk1 m c ⟨n, hn⟩)) ∗ (∃ d, owns (c : Thread nD τ) scr1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr0 fullShare (unpacked (blk1 m c ⟨n, hn⟩)) ∗ (∃ d, owns (c : Thread nD τ) scr1 fullShare d)) ∗ (∃ r, prngReg c r)) := rfl

theorem PhiS_pos (c : Dev nD) (n : ℕ) (h : n ≤ cfg0.N) (hz : n ≠ 0) :
    PhiS m c n h = iprop(iprop(owns (c : Thread nD τ) scr0 fullShare (unpacked (blk1 m c ⟨n - 1, by omega⟩)) ∗ (∃ d, owns (c : Thread nD τ) scr1 fullShare d)) ∗ (∃ r, prngReg c r)) := by
  cases n with
  | zero => exact absurd rfl hz
  | succ n => rfl

/-! ## The pipeline's proof data -/

/-- The arrays as the region finds them; after the body each input's buffer at its block and the result's at `outBlock` of the
    four blocks; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (blk0 m c t) (unpacked (blk1 m c t)) (blk2 m c t) (blk3 m c t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (blk0 m c t) (unpacked (blk1 m c t)) (blk2 m c t) (blk3 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t))

set_option maxHeartbeats 3200000 in
/-- The body at any point: a point that unpacks leaves the scratch at its own unpacked block; a point that reuses finds the
    scratch at the block of the point before, which is its own. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 56 := lt_of_lt_of_eq t.isLt (show cfg0.N = 56 from N_0)
  by_cases h0 : t.val % 8 = 0
  · by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩⟩
      iapply (run_store c (grid0.coords t) _ _ _ _ _ _ _ _ _ _ _ _ _ _ ((unpacks_iff t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      iexact H4
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (run_store c (grid0.coords t) _ _ _ _ _ _ _ _ _ _ _ _ _ _ ((unpacks_iff t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexact HS1
      iintro ⟨H0, H1, H2, H3, H4, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      iexact H4
  · have hz : t.val ≠ 0 := fun h => h0 (by rw [h])
    rw [PhiS_castSucc m c t, PhiS_pos m c _ _ hz, blk1_prev m c t h0]
    iintro ⟨⟨⟨HS0, HS1⟩, Hg⟩, Ho, ⟨%d0, H0⟩, ⟨%d1, H1⟩, ⟨%d2, H2⟩, ⟨%d3, H3⟩, ⟨%d4, H4⟩⟩
    iapply (run_reuse c (grid0.coords t) _ _ _ _ _ _ _ _ _ _ _ _ _ _ (fun h => h0 ((unpacks_iff t).mp h)) (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 56 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨⟨HS0, HS1⟩, Hg⟩
  isplitl [HS0 HS1]
  · isplitl [HS0]
    · iexists _; iexact HS0
    iexact HS1
  iexact Hg

/-! ## The run and the frame -/

set_option backward.isDefEq.respectTransparency.types false in
/-- The run: every execution terminates with the pipeline's arrays as `dats` says, and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every execution terminates with the arguments unchanged and every counter at zero. -/
theorem frame_KernelIdeal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof

end
-- ==== Proof.KernelFrame.lean ====
/-
  The frame of the kernel over words: its printed text is the idealized one's.
-/
module

public import proofs.«01_k».proof.Proof.Gen.Kernel.Frame
public import proofs.«01_k».proof.Proof.Run

@[expose] public section

set_option maxRecDepth 16384

noncomputable section

namespace Cert.Proof

open Idealize.ShloMosaic Idealize.ShloMosaic.TcCoe Idealize.SL.Sem

variable {F : FTy → Type} [FloatOps F]

/-- The two printed bodies are one text: the same function of a grid point and its buffers. -/
theorem defs₀_eq : Cert.Kernel.defs₀ (F := F) = Cert.KernelIdeal.defs₀ (F := F) := by
  refine congrArg Defs.onTc ?_
  funext l p
  match l, p with
  | ⟨0, _⟩, (t, s) => exact rfl

/-- So the two programs' definitions are the same. -/
theorem defs_eq : Cert.Kernel.defs (F := F) = Cert.KernelIdeal.defs (F := F) :=
  congrArg (Pipeline.defs (Cert.KernelIdeal.pcfgs (F := F))) defs₀_eq

/-- The frame of the kernel: every execution terminates with the arguments unchanged and every counter at zero. -/
theorem frame_Kernel (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [defs_eq]
  exact frame_KernelIdeal (F := F) m ρ

end Cert.Proof

end
-- ==== Proof.Math.lean ====
/-
  The arithmetic of the product kernel at the extended reals: one entry of what a point writes, as a sum over the whole
  contraction.
-/
module

public import proofs.«01_k».proof.Proof.Body
public import Idealize.ShloMosaic.PureOps.Ideal
public import Idealize.ShloMosaic.Lib.ValueIdx
public import Idealize.ShloMosaic.Lib.Pointwise
public import Idealize.ShloMosaic.Lib.Pipeline.Value

@[expose] public section

set_option maxRecDepth 16384

noncomputable section

namespace Cert.Proof

open Cert.KernelIdeal Cert.KernelIdeal.Gen
open Idealize.ShloMosaic
open scoped BigOperators

/-- The signed 4-bit number at place `r` of the packed rows: the low half of the byte at an even place, the high half
    at an odd one. -/
def nibble (b : BitVec 8) (r : ℕ) : ℤ :=
  if r % 2 = 0 then (b.setWidth 4).toInt else ((b >>> 4).setWidth 4).toInt

/-- An integer as an extended real. -/
abbrev toE (z : ℤ) : EReal := ((z : ℝ) : EReal)

theorem lo_bits : ∀ b : BitVec 8,
    (BitVec.setWidth 4 (IntOp.shrsi .vector (IntOp.shli .vector (BitVec.setWidth 32 b) 28#32) 28#32)).toInt = (b.setWidth 4).toInt := by
  decide +kernel

theorem hi_bits : ∀ b : BitVec 8,
    (BitVec.setWidth 4 (IntOp.shrsi .vector (IntOp.shli .vector (BitVec.setWidth 32 b) 24#32) 28#32)).toInt
      = ((b >>> 4).setWidth 4).toInt := by
  decide +kernel

/-- An unpacked block of weights at a place is the signed half of its byte. -/
theorem pay1_apply (v : Vec Ideal S64x512 .i8) (j : S128x512.Idx) :
    k0_pay1 v j = toE (nibble (v (ix2 ⟨(j 0).val / 2, by have : (j 0).val < 128 := (j 0).isLt; omega⟩ (j 1))) (j 0).val) := by
  pointwise [k0_pay1]
  show toE (BitVec.toInt _) = _
  unfold nibble
  by_cases h : (j 0).val % 2 = 0
  · rw [dif_pos (by omega), if_pos h, lo_bits]
  · rw [dif_neg (by omega), if_neg h, hi_bits]

/-- A window at a place is the array at the window's offsets plus that place. -/
theorem window_at {α : Type} {s : Shape} (x : s.Idx → α) (off size : Fin s.rank → ℕ) (inb : ∀ a, off a + size a ≤ s.size a)
    (y : (Rect.unit off size inb).shape.Idx) (z : s.Idx) (h : ∀ a, off a + (y a).val = (z a).val) : VecWindow.window x off size inb y = x z :=
  congrArg x (funext fun a => Fin.ext (by
    rw [Rect.emb_apply]; show off a + 1 * (y a).val = _; rw [Nat.one_mul, h a]))

/-- The four code pieces side by side are the codes at the block's columns. -/
theorem codes_apply (x : Vec Ideal S256x18944 .i8) (k : Fin 37) (p : Fin 256) (c : Fin 512) (q : BitVec 8)
    (hq : q = x (ix2 p ⟨512 * k.val + c.val, by omega⟩)) :
    (if h : c.val < 128 then VecWindow.window x ![0, 512 * k.val + 128 * 0] S256x128.size (inb_codes k 0) (ix2 p ⟨c.val, h⟩)
     else if h : c.val - 128 < 128 then VecWindow.window x ![0, 512 * k.val + 128 * 1] S256x128.size (inb_codes k 1) (ix2 p ⟨c.val - 128, h⟩)
     else if h : c.val - 128 - 128 < 128 then
       VecWindow.window x ![0, 512 * k.val + 128 * 2] S256x128.size (inb_codes k 2) (ix2 p ⟨c.val - 128 - 128, h⟩)
     else VecWindow.window x ![0, 512 * k.val + 128 * 3] S256x128.size (inb_codes k 3) (ix2 p ⟨c.val - 128 - 128 - 128, by omega⟩)) = q := by
  subst hq
  have hc := c.isLt
  split_ifs
  · exact window_at x _ _ _ _ _ fun a => match a with
      | ⟨0, _⟩ => Nat.zero_add _
      | ⟨1, _⟩ => by show 512 * k.val + 128 * 0 + c.val = 512 * k.val + c.val; omega
  · exact window_at x _ _ _ _ _ fun a => match a with
      | ⟨0, _⟩ => Nat.zero_add _
      | ⟨1, _⟩ => by show 512 * k.val + 128 * 1 + (c.val - 128) = 512 * k.val + c.val; omega
  · exact window_at x _ _ _ _ _ fun a => match a with
      | ⟨0, _⟩ => Nat.zero_add _
      | ⟨1, _⟩ => by show 512 * k.val + 128 * 2 + (c.val - 128 - 128) = 512 * k.val + c.val; omega
  · exact window_at x _ _ _ _ _ fun a => match a with
      | ⟨0, _⟩ => Nat.zero_add _
      | ⟨1, _⟩ => by show 512 * k.val + 128 * 3 + (c.val - 128 - 128 - 128) = 512 * k.val + c.val; omega

/-- One trip of the product loop adds the products over its 512 places of the contraction. -/
theorem accStep_apply (x : Vec Ideal S256x18944 .i8) (w : Vec Ideal S18944x512 .fp8e4m3) (k : Fin 37) (a : Vec Ideal S256x512 .f32)
    (j : S256x512.Idx) :
    accStep x w k a j = a j + ∑ c : Fin 512, toE (x (ix2 (j 0) ⟨512 * k.val + c.val, by omega⟩) : BitVec 8).toInt
      * (w (ix2 ⟨512 * k.val + c.val, by omega⟩ (j 1)) : EReal) := by
  unfold accStep
  pointwise [k0_pay3]
  refine congrArg (a j + ·) (Finset.sum_congr rfl fun c _ => ?_)
  refine congrArg₂ (· * ·) ?_ ?_
  · exact congrArg (fun b : BitVec 8 => toE b.toInt) (codes_apply x k (j 0) c _ rfl)
  · exact window_at w _ _ _ _ _ fun a => match a with
      | ⟨0, _⟩ => rfl
      | ⟨1, _⟩ => Nat.zero_add _

theorem pay4_apply (a : Vec Ideal S256x512 .f32) (xs : Vec Ideal S256x1 .f32) (ws : Vec Ideal S1x512 .f32) (j : S256x512.Idx) :
    k0_pay4 a xs ws j = (a j * xs (ix2 (j 0) 0) * ws (ix2 0 (j 1)) : EReal) := by
  pointwise [k0_pay4]

theorem pay2_apply (j : S256x512.Idx) : (k0_pay2 (F := Ideal)) j = (0 : EReal) := by
  pointwise [k0_pay2]

/-- The unpacked block at a place is the signed half of its byte. -/
theorem unpacked_apply (x : Vec Ideal S9472x512 .i8) (y : S18944x512.Idx) :
    unpacked x y = toE (nibble (x (ix2 ⟨(y 0).val / 2, by have : (y 0).val < 18944 := (y 0).isLt; omega⟩ (y 1))) (y 0).val) := by
  have h : (y 0).val < 18944 := (y 0).isLt
  unfold unpacked
  rw [pay1_apply]
  refine congrArg toE ?_
  have hw : VecWindow.window x ![64 * ((y 0).val / 128), 0] S64x512.size (inb_bytes ⟨(y 0).val / 128, by omega⟩)
      (ix2 ⟨(y 0).val % 128 / 2, by omega⟩ (y 1)) = x (ix2 ⟨(y 0).val / 2, by omega⟩ (y 1)) :=
    window_at x _ _ _ _ _ fun a => match a with
      | ⟨0, _⟩ => by show 64 * ((y 0).val / 128) + (y 0).val % 128 / 2 = (y 0).val / 2; omega
      | ⟨1, _⟩ => Nat.zero_add _
  have hn (b : BitVec 8) : nibble b ((y 0).val % 128) = nibble b (y 0).val := by
    unfold nibble; rw [show (y 0).val % 128 % 2 = (y 0).val % 2 by omega]
  exact (congrArg (fun b => nibble b ((y 0).val % 128)) hw).trans (hn _)

/-- The product term at place `r` of the contraction (zero past its end). -/
def term (x : Vec Ideal S256x18944 .i8) (w : Vec Ideal S18944x512 .fp8e4m3) (j : S256x512.Idx) (r : ℕ) : EReal :=
  if h : r < 18944 then toE (x (ix2 (j 0) ⟨r, h⟩) : BitVec 8).toInt * (w (ix2 ⟨r, h⟩ (j 1)) : EReal) else 0

/-- The accumulator after `k` trips is the sum over the first `512 k` places. -/
theorem acc_apply (x : Vec Ideal S256x18944 .i8) (w : Vec Ideal S18944x512 .fp8e4m3) (j : S256x512.Idx) (k : ℕ) (hk : k ≤ 37) :
    acc x w k j = ∑ r ∈ Finset.range (512 * k), term x w j r := by
  induction k with
  | zero => rw [Nat.mul_zero, Finset.range_zero, Finset.sum_empty]; exact pay2_apply j
  | succ k ih =>
    rw [acc, dif_pos (by omega : k < 37), accStep_apply, ih (by omega), Nat.mul_succ, Finset.sum_range_add, Finset.sum_range (n := 512)]
    refine congrArg (_ + ·) (Finset.sum_congr rfl fun c _ => ?_)
    rw [term, dif_pos (by omega)]

/-- An entry of a block of the result: the whole sum of code times weight, times the token's scale, times the column's. -/
theorem outBlock_apply (x : Vec Ideal S256x18944 .i8) (b : Vec Ideal S9472x512 .i8) (xs : Vec Ideal S256x1 .f32) (ws : Vec Ideal S1x512 .f32)
    (j : S256x512.Idx) :
    outBlock x (unpacked b) xs ws j
      = (∑ r : Fin 18944, toE (x (ix2 (j 0) r) : BitVec 8).toInt * toE (nibble (b (ix2 ⟨r.val / 2, by omega⟩ (j 1))) r.val))
        * (xs (ix2 (j 0) 0) : EReal) * (ws (ix2 0 (j 1)) : EReal) := by
  have hs : acc x (unpacked b) 37 j
      = ∑ r : Fin 18944, toE (x (ix2 (j 0) r) : BitVec 8).toInt * toE (nibble (b (ix2 ⟨r.val / 2, by omega⟩ (j 1))) r.val) := by
    refine (acc_apply x (unpacked b) j 37 (by omega)).trans ?_
    rw [← Fin.sum_univ_eq_sum_range (term x (unpacked b) j) (512 * 37)]
    refine Finset.sum_congr rfl fun r _ => ?_
    exact (dif_pos r.isLt).trans (congrArg (_ * ·) (unpacked_apply b _))
  unfold outBlock
  rw [pay4_apply, hs]

/-- The whole result: entry `(i, j)` is the sum over the contraction of code times signed 4-bit weight, times token `i`'s
    scale, times column `j`'s. -/
def prod (x : S2048x18944.Idx → BitVec 8) (b : S9472x3584.Idx → BitVec 8) (xs : S2048x1.Idx → EReal) (ws : S3584.Idx → EReal) :
    S2048x3584.Idx → EReal := fun j =>
  (∑ r : Fin 18944, toE (x (ix2 (j 0) r)).toInt * toE (nibble (b (ix2 ⟨r.val / 2, by omega⟩ (j 1))) r.val))
    * xs (ix2 (j 0) 0) * ws (ix1 (j 1))

end Cert.Proof
-- ==== Proof.Value.lean ====
/-
  The value of the product kernel: the array it leaves is the whole quantised product.
-/
module

public import proofs.«01_k».proof.Proof.Run
public import proofs.«01_k».proof.Proof.Math
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

theorem index0 : ∀ t : Fin cfg0.N, win0_0.index t = ![t.val % 8, 0] := (by decide +kernel : ∀ t : Fin grid0.N, _)
theorem index1 : ∀ t : Fin cfg0.N, win0_1.index t = ![0, t.val / 8] := (by decide +kernel : ∀ t : Fin grid0.N, _)
theorem index2 : ∀ t : Fin cfg0.N, win0_2.index t = ![t.val % 8, 0] := (by decide +kernel : ∀ t : Fin grid0.N, _)
theorem index3 : ∀ t : Fin cfg0.N, win0_3.index t = ![0, t.val / 8] := (by decide +kernel : ∀ t : Fin grid0.N, _)
theorem index4 : ∀ t : Fin cfg0.N, win0_4.index t = ![t.val % 8, t.val / 8] := (by decide +kernel : ∀ t : Fin grid0.N, _)

/-- The row of column scales the kernel is given is the argument, as one row. -/
theorem V_main_v0 (c : Dev nD) : V m c main_v0 = shapeCast S1x3584 (V m c main_arg3) shapeCasts_S3584_S1x3584 := by
  rw [V_main_arg3]
  entry_read
  rfl

/-- Where the block of the result point `t` writes puts its place `y`. -/
def place (t : Fin cfg0.N) (y : S256x512.Idx) : S2048x3584.Idx := (win0_4.blk t).view.emb y

theorem place_row (t : Fin cfg0.N) (y : S256x512.Idx) : (place t y 0).val = t.val % 8 * 256 + (y 0).val := by
  unfold place; blk_simp; rw [index4]; rfl
theorem place_col (t : Fin cfg0.N) (y : S256x512.Idx) : (place t y 1).val = t.val / 8 * 512 + (y 1).val := by
  unfold place; blk_simp; rw [index4]; rfl

/-- Where each input window's block of point `t` lies in its array, against the block of the result. -/
theorem emb0 (t : Fin cfg0.N) (y : S256x512.Idx) (r : Fin 18944) :
    (win0_0.blk t).view.emb (ix2 (y 0) r) = (ix2 (place t y 0) r : S2048x18944.Idx) := funext fun a => Fin.ext (by
  match a with
  | ⟨0, _⟩ => blk_simp; rw [index0]; exact (place_row t y).symm
  | ⟨1, _⟩ => blk_simp; rw [index0]; show 0 * 18944 + r.val = r.val; omega)
theorem emb1 (t : Fin cfg0.N) (y : S256x512.Idx) (r : Fin 9472) :
    (win0_1.blk t).view.emb (ix2 r (y 1)) = (ix2 r (place t y 1) : S9472x3584.Idx) := funext fun a => Fin.ext (by
  match a with
  | ⟨0, _⟩ => blk_simp; rw [index1]; show 0 * 9472 + r.val = r.val; omega
  | ⟨1, _⟩ => blk_simp; rw [index1]; exact (place_col t y).symm)
theorem emb2 (t : Fin cfg0.N) (y : S256x512.Idx) :
    (win0_2.blk t).view.emb (ix2 (y 0) (0 : Fin 1)) = (ix2 (place t y 0) (0 : Fin 1) : S2048x1.Idx) := funext fun a => Fin.ext (by
  match a with
  | ⟨0, _⟩ => blk_simp; rw [index2]; exact (place_row t y).symm
  | ⟨1, _⟩ => blk_simp; rw [index2]; rfl)
theorem emb3 (t : Fin cfg0.N) (y : S256x512.Idx) :
    (win0_3.blk t).view.emb (ix2 (0 : Fin 1) (y 1)) = (ix2 (0 : Fin 1) (place t y 1) : S1x3584.Idx) := funext fun a => Fin.ext (by
  match a with
  | ⟨0, _⟩ => blk_simp; rw [index3]; rfl
  | ⟨1, _⟩ => blk_simp; rw [index3]; exact (place_col t y).symm)

/-- The column scales as one row, read at a column. -/
theorem row_apply (v : S3584.Idx → EReal) (q : Fin 3584) : shapeCast S1x3584 v shapeCasts_S3584_S1x3584 (ix2 0 q) = v (ix1 q) := by
  pointwise

theorem covers4 : (cfg0.win 4).Covers := by decide +kernel

theorem x_at (c : Dev nD) (t : Fin cfg0.N) (y : S256x512.Idx) (r : Fin 18944) :
    blk0 m c t (ix2 (y 0) r) = (V m c main_arg0 (ix2 (place t y 0) r : S2048x18944.Idx) : BitVec 8) :=
  congrArg (V m c main_arg0) (emb0 t y r)
theorem b_at (c : Dev nD) (t : Fin cfg0.N) (y : S256x512.Idx) (r : Fin 9472) :
    blk1 m c t (ix2 r (y 1)) = (V m c main_arg1 (ix2 r (place t y 1) : S9472x3584.Idx) : BitVec 8) :=
  congrArg (V m c main_arg1) (emb1 t y r)
theorem xs_at (c : Dev nD) (t : Fin cfg0.N) (y : S256x512.Idx) :
    blk2 m c t (ix2 (y 0) 0) = (V m c main_arg2 (ix2 (place t y 0) 0 : S2048x1.Idx) : EReal) :=
  congrArg (V m c main_arg2) (emb2 t y)
theorem ws_at (c : Dev nD) (t : Fin cfg0.N) (y : S256x512.Idx) :
    blk3 m c t (ix2 0 (y 1)) = (V m c main_arg3 (ix1 (place t y 1) : S3584.Idx) : EReal) :=
  (congrArg (V m c main_v0) (emb3 t y)).trans ((congrFun (V_main_v0 m c) _).trans (row_apply _ _))

theorem sum_at (c : Dev nD) (t : Fin cfg0.N) (y : S256x512.Idx) :
    (∑ r : Fin 18944, toE (blk0 m c t (ix2 (y 0) r) : BitVec 8).toInt
        * toE (nibble (blk1 m c t (ix2 ⟨r.val / 2, by omega⟩ (y 1))) r.val))
      = ∑ r : Fin 18944, toE (V m c main_arg0 (ix2 (place t y 0) r : S2048x18944.Idx) : BitVec 8).toInt
        * toE (nibble (V m c main_arg1 (ix2 ⟨r.val / 2, by omega⟩ (place t y 1) : S9472x3584.Idx) : BitVec 8) r.val) :=
  Finset.sum_congr rfl fun r _ => by rw [x_at, b_at m c t y ⟨r.val / 2, by omega⟩]

/-- What point `t` leaves is its block of the whole product. -/
theorem block_at (c : Dev nD) (t : Fin cfg0.N) (y : S256x512.Idx) :
    outBlock (blk0 m c t) (unpacked (blk1 m c t)) (blk2 m c t) (blk3 m c t) y
      = prod (V m c main_arg0) (V m c main_arg1) (V m c main_arg2) (V m c main_arg3) (place t y) := by
  rw [outBlock_apply, sum_at, xs_at, ws_at]
  rfl

/-- The array the kernel leaves is the whole product. -/
theorem final (c : Dev nD) : (dats m 0 c).arrAt 4 cfg0.N = prod (V m c main_arg0) (V m c main_arg1) (V m c main_arg2) (V m c main_arg3) := by
  refine (dats m 0 c).arrAt_eq_of_covers 4 _ covers4 (fun t hf y => ?_)
  blk_simp
  rw [after0_4]
  exact block_at m c t y

/-- The run with its value: the result array is the whole product of the arguments, and the arguments are unchanged. -/
theorem run_value : θ_run defs (onTc (τ := τ) (main (F := Ideal))) ⟨m, fun _ => 0, ρ⟩ (fun r => ∀ c : Dev nD,
      r.2.mem ((c.tc : Thread nD τ).loc main_v1)
        = prod (m ((c.tc : Thread nD τ).loc main_arg0)) (m ((c.tc : Thread nD τ).loc main_arg1))
            (m ((c.tc : Thread nD τ).loc main_arg2)) (m ((c.tc : Thread nD τ).loc main_arg3))) := by
  refine (θ_run defs _ _).mono (fun r h c => ?_) (run_main m ρ)
  refine ((h.1 c).1 4).trans ?_
  rw [final, V_main_arg0, V_main_arg1, V_main_arg2, V_main_arg3]

end Cert.Proof
-- ==== Proof.RefValue.lean ====
/-
  The value of the reference: the array it leaves is the whole quantised product.
-/
module

public import proofs.«01_k».proof.Proof.Gen.ReferenceIdeal.Frame
public import proofs.«01_k».proof.Proof.Math
public import Idealize.ShloMosaic.Lib.Pipeline.ValueKit

@[expose] public section

set_option maxRecDepth 16384

noncomputable section

namespace Cert.Proof.Ref

open Cert.ReferenceIdeal Cert.ReferenceIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The low half, read as the reference reads it. -/
theorem lo_bits : ∀ b : BitVec 8,
    (IntOp.subi (IntOp.andi (BitVec.setWidth 32 b) 15#32) (IntOp.muli (16#32)
      (BitVec.setWidth 32 (IntOp.cmpi CmpIPredicate.sge (IntOp.andi (BitVec.setWidth 32 b) 15#32) 8#32)))).toInt = (b.setWidth 4).toInt := by
  decide +kernel

/-- The high half, read as the reference reads it. -/
theorem hi_bits : ∀ b : BitVec 8,
    (IntOp.subi (IntOp.shrsi ArithUnit.vector (BitVec.setWidth 32 b) 4#32) (IntOp.muli (16#32)
      (BitVec.setWidth 32 (IntOp.cmpi CmpIPredicate.sge (IntOp.shrsi ArithUnit.vector (BitVec.setWidth 32 b) 4#32) 8#32)))).toInt
      = ((b >>> 4).setWidth 4).toInt := by
  decide +kernel

/-- An entry of what the reference computes: the products at the even places, plus those at the odd ones, times the two
    scales. -/
theorem pay_apply (w : Vec Ideal S9472x3584 .i8) (e o : Vec Ideal S2048x9472 .i8) (xs : Vec Ideal S2048x1 .f32) (ws : Vec Ideal S1x3584 .f32)
    (p : Fin 2048) (q : Fin 3584) :
    k0_pay1 w e o xs ws (ix2 p q)
      = ((∑ k : Fin 9472, toE (e (ix2 p k) : BitVec 8).toInt * toE ((w (ix2 k q) : BitVec 8).setWidth 4).toInt)
          + ∑ k : Fin 9472, toE (o (ix2 p k) : BitVec 8).toInt * toE (((w (ix2 k q) : BitVec 8) >>> 4).setWidth 4).toInt)
        * (xs (ix2 p 0) : EReal) * (ws (ix2 0 q) : EReal) := by
  have hl (k : Fin 9472) := congrArg toE (lo_bits (w (ix2 k q)))
  have hh (k : Fin 9472) := congrArg toE (hi_bits (w (ix2 k q)))
  simp only [← hl, ← hh]
  pointwise [k0_pay1]
  rfl

/-- A sum over the first `2 n` places, the even ones first. -/
theorem sum_even_odd (f : ℕ → EReal) (n : ℕ) :
    ∑ r ∈ Finset.range (2 * n), f r = (∑ k ∈ Finset.range n, f (2 * k)) + ∑ k ∈ Finset.range n, f (2 * k + 1) := by
  induction n with
  | zero => simp
  | succ n ih =>
    rw [show 2 * (n + 1) = 2 * n + 1 + 1 by omega, Finset.sum_range_succ, Finset.sum_range_succ, ih, Finset.sum_range_succ,
      Finset.sum_range_succ]
    abel

theorem sum_halves (f : Fin 18944 → EReal) :
    ∑ r : Fin 18944, f r = (∑ k : Fin 9472, f ⟨2 * k.val, by omega⟩) + ∑ k : Fin 9472, f ⟨2 * k.val + 1, by omega⟩ := by
  have h := sum_even_odd (fun r => if h : r < 18944 then f ⟨r, h⟩ else 0) 9472
  rw [← Fin.sum_univ_eq_sum_range _ (2 * 9472), ← Fin.sum_univ_eq_sum_range _ 9472, ← Fin.sum_univ_eq_sum_range _ 9472] at h
  refine Eq.trans (Finset.sum_congr rfl fun r _ => ?_) (h.trans (congrArg₂ (· + ·) (Finset.sum_congr rfl fun k _ => ?_) (Finset.sum_congr rfl fun k _ => ?_)))
  · exact (dif_pos (c := r.val < 18944) (t := fun h => f ⟨r.val, h⟩) r.isLt).symm
  · exact dif_pos (by omega)
  · exact dif_pos (by omega)

/-- The codes at the even places. -/
theorem even_at (c : Dev nD) (p : Fin 2048) (k : Fin 9472) :
    V m c main_v0 (ix2 p k : S2048x9472.Idx) = V m c main_arg0 (ix2 p ⟨2 * k.val, by omega⟩ : S2048x18944.Idx) := by
  rw [V_main_arg0]
  entry_read
  pointwise

/-- The codes at the odd places. -/
theorem odd_at (c : Dev nD) (p : Fin 2048) (k : Fin 9472) :
    V m c main_v1 (ix2 p k : S2048x9472.Idx) = V m c main_arg0 (ix2 p ⟨2 * k.val + 1, by omega⟩ : S2048x18944.Idx) := by
  rw [V_main_arg0]
  entry_read
  pointwise
  exact congrArg (m (c.tc.loc main_arg0)) (congrArg (ix2 p) (Fin.ext (Nat.add_comm _ _)))

/-- The column scales as one row. -/
theorem row_at (c : Dev nD) (q : Fin 3584) :
    V m c main_v2 (ix2 0 q : S1x3584.Idx) = V m c main_arg3 (ix1 q : S3584.Idx) := by
  rw [V_main_arg3]
  entry_read
  pointwise

/-! Every window's block is its whole array. -/

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)

theorem emb0 (t : Fin cfg0.N) (y : (⟨2, ![2048, 9472]⟩ : Shape).Idx) : (win0_0.blk t).view.emb y = y := funext fun a => Fin.ext (by
  match a with
  | ⟨0, _⟩ => blk_simp; rw [index0]; show 0 * 2048 + (y 0).val = (y 0).val; omega
  | ⟨1, _⟩ => blk_simp; rw [index0]; show 0 * 9472 + (y 1).val = (y 1).val; omega)
theorem emb1 (t : Fin cfg0.N) (y : (⟨2, ![2048, 9472]⟩ : Shape).Idx) : (win0_1.blk t).view.emb y = y := funext fun a => Fin.ext (by
  match a with
  | ⟨0, _⟩ => blk_simp; rw [index1]; show 0 * 2048 + (y 0).val = (y 0).val; omega
  | ⟨1, _⟩ => blk_simp; rw [index1]; show 0 * 9472 + (y 1).val = (y 1).val; omega)
theorem emb2 (t : Fin cfg0.N) (y : (⟨2, ![9472, 3584]⟩ : Shape).Idx) : (win0_2.blk t).view.emb y = y := funext fun a => Fin.ext (by
  match a with
  | ⟨0, _⟩ => blk_simp; rw [index2]; show 0 * 9472 + (y 0).val = (y 0).val; omega
  | ⟨1, _⟩ => blk_simp; rw [index2]; show 0 * 3584 + (y 1).val = (y 1).val; omega)
theorem emb3 (t : Fin cfg0.N) (y : (⟨2, ![2048, 1]⟩ : Shape).Idx) : (win0_3.blk t).view.emb y = y := funext fun a => Fin.ext (by
  match a with
  | ⟨0, _⟩ => blk_simp; rw [index3]; show 0 * 2048 + (y 0).val = (y 0).val; omega
  | ⟨1, _⟩ => blk_simp; rw [index3]; rfl)
theorem emb4 (t : Fin cfg0.N) (y : (⟨2, ![1, 3584]⟩ : Shape).Idx) : (win0_4.blk t).view.emb y = y := funext fun a => Fin.ext (by
  match a with
  | ⟨0, _⟩ => blk_simp; rw [index4]; rfl
  | ⟨1, _⟩ => blk_simp; rw [index4]; show 0 * 3584 + (y 1).val = (y 1).val; omega)
theorem emb5 (t : Fin cfg0.N) (y : (⟨2, ![2048, 3584]⟩ : Shape).Idx) : (win0_5.blk t).view.emb y = y := funext fun a => Fin.ext (by
  match a with
  | ⟨0, _⟩ => blk_simp; rw [index5]; show 0 * 2048 + (y 0).val = (y 0).val; omega
  | ⟨1, _⟩ => blk_simp; rw [index5]; show 0 * 3584 + (y 1).val = (y 1).val; omega)

theorem iblk0 (c : Dev nD) (t : Fin cfg0.N) : iblk m c 0 t = V m c main_v0 := funext fun y => congrArg (V m c main_v0) (emb0 t y)
theorem iblk1 (c : Dev nD) (t : Fin cfg0.N) : iblk m c 1 t = V m c main_v1 := funext fun y => congrArg (V m c main_v1) (emb1 t y)
theorem iblk2 (c : Dev nD) (t : Fin cfg0.N) : iblk m c 2 t = V m c main_arg1 := funext fun y => congrArg (V m c main_arg1) (emb2 t y)
theorem iblk3 (c : Dev nD) (t : Fin cfg0.N) : iblk m c 3 t = V m c main_arg2 := funext fun y => congrArg (V m c main_arg2) (emb3 t y)
theorem iblk4 (c : Dev nD) (t : Fin cfg0.N) : iblk m c 4 t = V m c main_v2 := funext fun y => congrArg (V m c main_v2) (emb4 t y)

/-- What the reference's one point computes is the whole product. -/
theorem whole_at (c : Dev nD) (p : Fin 2048) (q : Fin 3584) :
    k0_pay1 (V m c main_arg1) (V m c main_v0) (V m c main_v1) (V m c main_arg2) (V m c main_v2) (ix2 p q)
      = prod (V m c main_arg0) (V m c main_arg1) (V m c main_arg2) (V m c main_arg3) (ix2 p q) := by
  rw [pay_apply, row_at]
  refine congrArg (fun z : EReal => z * (V m c main_arg2 (ix2 p 0 : S2048x1.Idx) : EReal) * (V m c main_arg3 (ix1 q : S3584.Idx) : EReal)) ?_
  refine Eq.trans ?_ (sum_halves fun r => toE (V m c main_arg0 (ix2 p r : S2048x18944.Idx) : BitVec 8).toInt
    * toE (nibble (V m c main_arg1 (ix2 ⟨r.val / 2, by omega⟩ q : S9472x3584.Idx) : BitVec 8) r.val)).symm
  refine congrArg₂ (· + ·) (Finset.sum_congr rfl fun k _ => ?_) (Finset.sum_congr rfl fun k _ => ?_)
  · rw [even_at, nibble, if_pos (by show 2 * k.val % 2 = 0; omega)]
    refine congrArg (fun i : Fin 9472 => _ * (fun b : BitVec 8 => toE (b.setWidth 4).toInt) (V m c main_arg1 (ix2 i q : S9472x3584.Idx))) (Fin.ext ?_)
    show k.val = 2 * k.val / 2
    omega
  · rw [odd_at, nibble, if_neg (by show ¬ (2 * k.val + 1) % 2 = 0; omega)]
    refine congrArg (fun i : Fin 9472 => _ * (fun b : BitVec 8 => toE ((b >>> 4).setWidth 4).toInt) (V m c main_arg1 (ix2 i q : S9472x3584.Idx))) (Fin.ext ?_)
    show k.val = (2 * k.val + 1) / 2
    omega

/-- The array the reference leaves is the whole product. -/
theorem final (c : Dev nD) : (dats m 0 c).arrAt 5 cfg0.N = prod (V m c main_arg0) (V m c main_arg1) (V m c main_arg2) (V m c main_arg3) := by
  refine (dats m 0 c).arrAt_eq_of_covers 5 _ (by decide +kernel) (fun t hf y => ?_)
  blk_simp
  rw [after0_5]
  frame_out
  rw [iblk0, iblk1, iblk2, iblk3, iblk4]
  have hy : y = (ix2 (y 0) (y 1) : S2048x3584.Idx) := funext fun a => match a with
    | ⟨0, _⟩ => rfl
    | ⟨1, _⟩ => rfl
  exact (congrArg _ hy).trans ((whole_at m c (y 0) (y 1)).trans (congrArg _ (hy.symm.trans (emb5 t y).symm)))

/-- The run with its value: the result array is the whole product of the arguments. -/
theorem run_value : θ_run defs (onTc (τ := τ) (main (F := Ideal))) ⟨m, fun _ => 0, ρ⟩ (fun r => ∀ c : Dev nD,
      r.2.mem ((c.tc : Thread nD τ).loc main_v3)
        = prod (m ((c.tc : Thread nD τ).loc main_arg0)) (m ((c.tc : Thread nD τ).loc main_arg1))
            (m ((c.tc : Thread nD τ).loc main_arg2)) (m ((c.tc : Thread nD τ).loc main_arg3))) := by
  refine (θ_run defs _ _).mono (fun r h c => ?_) (Gen.run_main m ρ)
  refine ((h c).1 5).trans ?_
  rw [final, V_main_arg0, V_main_arg1, V_main_arg2, V_main_arg3]

end Cert.Proof.Ref
-- ==== Proof.lean ====
/-
  The certificate: every execution of the kernel, of its idealized form and of the reference terminates with the arguments
  unchanged and every counter at zero, and at the extended reals the kernel's result array is the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.Value
public import proofs.«01_k».proof.Proof.RefValue
public import Idealize.ShloMosaic.Adequacy
public import Idealize.ShloMosaic.Init

@[expose] public section

noncomputable section

namespace Cert.Proof

open Idealize.ShloMosaic Idealize.SL.Sem

/-- At the extended reals, on equal arguments, the kernel and the reference leave the same result array: the whole product
    `prod` of the arguments. -/
theorem algebraic [Cert.KernelIdeal.Facts] [Cert.ReferenceIdeal.Facts] : Cert.algebraic_KernelIdeal_ReferenceIdeal := by
  intro m g m' g' _ hag
  refine ⟨fun c => prod (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · exact (θ_run _ _ _).mono (fun r h c => ⟨h.1 c, h.2.1 c⟩) (θ_run_and (run_value m g) (frame_KernelIdeal m g))
  · refine (θ_run _ _ _).mono (fun r h c => ⟨(h.1 c).trans ?_, h.2.1 c⟩) (θ_run_and (Ref.run_value m' g') (Cert.ReferenceIdeal.Gen.frame m' g'))
    have e := hag c
    rw [e.1, e.2.1, e.2.2.1, e.2.2.2]

theorem claim : Cert.Claim := ⟨Cert.Kernel.Gen.facts, Cert.KernelIdeal.Gen.facts, Cert.ReferenceIdeal.Gen.facts,
  fun m g _ => frame_Kernel m g, fun m g _ => frame_KernelIdeal m g, fun m g _ => Cert.ReferenceIdeal.Gen.frame m g,
  trivial, algebraic⟩

end Cert.Proof

end
